-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S8x8192x128 : Shape := ⟨3, ![8, 8192, 128]⟩
abbrev S128x128 : Shape := ⟨2, ![128, 128]⟩
abbrev S128 : Shape := ⟨1, ![128]⟩
abbrev S_ : Shape := ⟨0, ![]⟩

class Facts : Prop where
  bcast_S_S128x128 : S_.BroadcastsInDim S128x128 (![] : Fin 0 → Fin S128x128.rank)
  bcast_S_S8x8192x128 : S_.BroadcastsInDim S8x8192x128 (![] : Fin 0 → Fin S8x8192x128.rank)

variable [Facts]

def fn_softplus {F : FTy → Type} [FloatOps F] (arg0 : FVec F S128x128 .f32) : FVec F S128x128 .f32 :=
  let cst : FVec F S_ .f32 := constant S_ .f32 0x00000000#32
  let v0 : FVec F S128x128 .f32 := broadcastInDim S128x128 ![] bcast_S_S128x128 cst
  let v1 : FVec F S128x128 .f32 := maximumf arg0 v0
  let v2 : FVec F S128x128 .f32 := broadcastInDim S128x128 ![] bcast_S_S128x128 cst
  let v3 : FVec F S128x128 .f32 := subf arg0 v2
  let v4 : IVec S128x128 1 := cmpf .une v3 v3
  let v5 : FVec F S128x128 .f32 := broadcastInDim S128x128 ![] bcast_S_S128x128 cst
  let v6 : FVec F S128x128 .f32 := addf arg0 v5
  let v7 : FVec F S128x128 .f32 := Host.absf v3
  let v8 : FVec F S128x128 .f32 := Host.negf v7
  let v9 : FVec F S128x128 .f32 := Host.exp v8
  let v10 : FVec F S128x128 .f32 := Host.log1p v9
  let v11 : FVec F S128x128 .f32 := addf v1 v10
  let v12 : FVec F S128x128 .f32 := select v4 v6 v11
  v12

def fn {F : FTy → Type} [FloatOps F] (main_arg0 : FVec F S8x8192x128 .f32) (main_arg1 : FVec F S128x128 .f32) (main_arg2 : FVec F S128x128 .f32) (main_arg3 : FVec F S128x128 .f32) (main_arg4 : FVec F S128 .f32) (main_arg5 : FVec F S128 .f32) (main_arg6 : FVec F S128x128 .f32) (main_arg7 : FVec F S128 .f32) : IVec S8x8192x128 1 × IVec S128x128 1 × IVec S128x128 1 × IVec S128x128 1 :=
  let main_v0 : FVec F S128x128 .f32 := fn_softplus (F := F) main_arg1
  let main_v1 : FVec F S128x128 .f32 := Host.negf main_v0
  let main_cst : FVec F S_ .f32 := constant S_ .f32 0x358637BD#32
  let main_v2 : FVec F S128x128 .f32 := broadcastInDim S128x128 ![] bcast_S_S128x128 main_cst
  let main_v3 : FVec F S128x128 .f32 := addf main_v1 main_v2
  let main_v4 : FVec F S8x8192x128 .f32 := Host.absf main_arg0
  let main_cst_0 : FVec F S_ .f32 := constant S_ .f32 0x7F800000#32
  let main_v5 : FVec F S8x8192x128 .f32 := broadcastInDim S8x8192x128 ![] bcast_S_S8x8192x128 main_cst_0
  let main_v6 : IVec S8x8192x128 1 := cmpf .olt main_v4 main_v5
  let main_v7 : FVec F S128x128 .f32 := Host.absf main_arg2
  let main_cst_1 : FVec F S_ .f32 := constant S_ .f32 0x7F800000#32
  let main_v8 : FVec F S128x128 .f32 := broadcastInDim S128x128 ![] bcast_S_S128x128 main_cst_1
  let main_v9 : IVec S128x128 1 := cmpf .olt main_v7 main_v8
  let main_v10 : FVec F S128x128 .f32 := Host.absf main_arg3
  let main_cst_2 : FVec F S_ .f32 := constant S_ .f32 0x7F800000#32
  let main_v11 : FVec F S128x128 .f32 := broadcastInDim S128x128 ![] bcast_S_S128x128 main_cst_2
  let main_v12 : IVec S128x128 1 := cmpf .olt main_v10 main_v11
  let main_cst_3 : FVec F S_ .f32 := constant S_ .f32 0x00000000#32
  let main_v13 : FVec F S128x128 .f32 := broadcastInDim S128x128 ![] bcast_S_S128x128 main_cst_3
  let main_v14 : IVec S128x128 1 := cmpf .une main_v3 main_v13
  (main_v6, main_v9, main_v12, main_v14)
-- ==== Kernel.lean ====
abbrev S8x8192x128 : Shape := ⟨3, ![8, 8192, 128]⟩
abbrev S128x128 : Shape := ⟨2, ![128, 128]⟩
abbrev S128 : Shape := ⟨1, ![128]⟩
abbrev S8x64x128x128 : Shape := ⟨4, ![8, 64, 128, 128]⟩
abbrev S128x64x8x128 : Shape := ⟨4, ![128, 64, 8, 128]⟩
abbrev S128x1 : Shape := ⟨2, ![128, 1]⟩
abbrev S8x64x8x128 : Shape := ⟨4, ![8, 64, 8, 128]⟩
abbrev S8x128 : Shape := ⟨2, ![8, 128]⟩
abbrev S8x1 : Shape := ⟨2, ![8, 1]⟩
abbrev S1x128 : Shape := ⟨2, ![1, 128]⟩
abbrev S128x128x1 : Shape := ⟨3, ![128, 128, 1]⟩
abbrev S1x64x8x128 : Shape := ⟨4, ![1, 64, 8, 128]⟩
abbrev S64x8x128 : Shape := ⟨3, ![64, 8, 128]⟩
abbrev S512x128 : Shape := ⟨2, ![512, 128]⟩
abbrev S1x1 : Shape := ⟨2, ![1, 1]⟩
abbrev S128x1x8x128 : Shape := ⟨4, ![128, 1, 8, 128]⟩
abbrev S8x1x128x128 : Shape := ⟨4, ![8, 1, 128, 128]⟩
abbrev S128x1x1x128 : Shape := ⟨4, ![128, 1, 1, 128]⟩
abbrev S1x1x128x128 : Shape := ⟨4, ![1, 1, 128, 128]⟩

abbrev nBuf : Space → Nat
  | .hbm => 16
  | .vmem => 20
  | .smem => 0
  | _ => 0

abbrev bufTy : (tb : Table) → Fin (tcTables nBuf tb) → BufTy
  | .hbm, ⟨0, _⟩ => ⟨S8x8192x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S8x64x128x128, .f32⟩
  | .hbm, ⟨9, _⟩ => ⟨S128x64x8x128, .f32⟩
  | .hbm, ⟨10, _⟩ => ⟨S128x1, .f32⟩
  | .hbm, ⟨11, _⟩ => ⟨S128x1, .f32⟩
  | .hbm, ⟨12, _⟩ => ⟨S128x64x8x128, .f32⟩
  | .hbm, ⟨13, _⟩ => ⟨S1x128, .f32⟩
  | .hbm, ⟨14, _⟩ => ⟨S8x64x128x128, .f32⟩
  | .hbm, ⟨15, _⟩ => ⟨S8x8192x128, .f32⟩
  | .local _ .vmem, ⟨0, _⟩ => ⟨S8x64x8x128, .f32⟩
  | .local _ .vmem, ⟨1, _⟩ => ⟨S8x64x8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x1, .f32⟩
  | .local _ .vmem, ⟨9, _⟩ => ⟨S8x1, .f32⟩
  | .local _ .vmem, ⟨10, _⟩ => ⟨S8x1, .f32⟩
  | .local _ .vmem, ⟨11, _⟩ => ⟨S8x1, .f32⟩
  | .local _ .vmem, ⟨12, _⟩ => ⟨S8x64x8x128, .f32⟩
  | .local _ .vmem, ⟨13, _⟩ => ⟨S8x64x8x128, .f32⟩
  | .local _ .vmem, ⟨14, _⟩ => ⟨S128x1x8x128, .f32⟩
  | .local _ .vmem, ⟨15, _⟩ => ⟨S128x1x8x128, .f32⟩
  | .local _ .vmem, ⟨16, _⟩ => ⟨S128x128, .f32⟩
  | .local _ .vmem, ⟨17, _⟩ => ⟨S1x128, .f32⟩
  | .local _ .vmem, ⟨18, _⟩ => ⟨S8x1x128x128, .f32⟩
  | .local _ .vmem, ⟨19, _⟩ => ⟨S8x1x128x128, .f32⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x64x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x64x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S128x1x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x1x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S8x8192x128 : Shape := ⟨3, ![8, 8192, 128]⟩
abbrev S128x128 : Shape := ⟨2, ![128, 128]⟩
abbrev S128 : Shape := ⟨1, ![128]⟩
abbrev S_ : Shape := ⟨0, ![]⟩
abbrev S128x1 : Shape := ⟨2, ![128, 1]⟩
abbrev S8192 : Shape := ⟨1, ![8192]⟩
abbrev S128x128x1 : Shape := ⟨3, ![128, 128, 1]⟩
abbrev S1x1x8192 : Shape := ⟨3, ![1, 1, 8192]⟩
abbrev S128x128x8192 : Shape := ⟨3, ![128, 128, 8192]⟩
abbrev S128x8192 : Shape := ⟨2, ![128, 8192]⟩
abbrev S8192x1 : Shape := ⟨2, ![8192, 1]⟩
abbrev S1x8192 : Shape := ⟨2, ![1, 8192]⟩
abbrev S8192x8192 : Shape := ⟨2, ![8192, 8192]⟩
abbrev S8192x8192x1 : Shape := ⟨3, ![8192, 8192, 1]⟩
abbrev S128x8192x8192 : Shape := ⟨3, ![128, 8192, 8192]⟩
abbrev S128x8192x8 : Shape := ⟨3, ![128, 8192, 8]⟩
abbrev S1x1x128 : Shape := ⟨3, ![1, 1, 128]⟩

abbrev nBuf : Space → Nat
  | .hbm => 91
  | .vmem => 0
  | .smem => 0
  | _ => 0

abbrev bufTy : (tb : Table) → Fin (tcTables nBuf tb) → BufTy
  | .hbm, ⟨0, _⟩ => ⟨S8x8192x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .i1⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S128, .i1⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S128x1, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S_, .f32⟩
  | .hbm, ⟨45, _⟩ => ⟨S128x128, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S8192, .f32⟩
  | .hbm, ⟨53, _⟩ => ⟨S128x128x1, .f32⟩
  | .hbm, ⟨54, _⟩ => ⟨S1x1x8192, .f32⟩
  | .hbm, ⟨55, _⟩ => ⟨S128x128x8192, .f32⟩
  | .hbm, ⟨56, _⟩ => ⟨S128x128x8192, .f32⟩
  | .hbm, ⟨57, _⟩ => ⟨S128x128x8192, .f32⟩
  | .hbm, ⟨58, _⟩ => ⟨S128x128, .f32⟩
  | .hbm, ⟨59, _⟩ => ⟨S128x8192, .f32⟩
  | .hbm, ⟨60, _⟩ => ⟨S8192, .i32⟩
  | .hbm, ⟨61, _⟩ => ⟨S8192x1, .i32⟩
  | .hbm, ⟨62, _⟩ => ⟨S8192, .i32⟩
  | .hbm, ⟨63, _⟩ => ⟨S1x8192, .i32⟩
  | .hbm, ⟨64, _⟩ => ⟨S8192x8192, .i32⟩
  | .hbm, ⟨65, _⟩ => ⟨S8192x8192, .i32⟩
  | .hbm, ⟨66, _⟩ => ⟨S8192x8192, .i32⟩
  | .hbm, ⟨67, _⟩ => ⟨S_, .i32⟩
  | .hbm, ⟨68, _⟩ => ⟨S8192x8192, .i32⟩
  | .hbm, ⟨69, _⟩ => ⟨S8192x8192, .i1⟩
  | .hbm, ⟨70, _⟩ => ⟨S_, .i32⟩
  | .hbm, ⟨71, _⟩ => ⟨S8192x8192, .i32⟩
  | .hbm, ⟨72, _⟩ => ⟨S8192x8192, .i32⟩
  | .hbm, ⟨73, _⟩ => ⟨S8192x8192x1, .i32⟩
  | .hbm, ⟨74, _⟩ => ⟨S128x8192x8192, .f32⟩
  | .hbm, ⟨75, _⟩ => ⟨S_, .f32⟩
  | .hbm, ⟨76, _⟩ => ⟨S_, .f32⟩
  | .hbm, ⟨77, _⟩ => ⟨S128x8192x8192, .i1⟩
  | .hbm, ⟨78, _⟩ => ⟨S128x8192x8192, .f32⟩
  | .hbm, ⟨79, _⟩ => ⟨S128x8192x8192, .f32⟩
  | .hbm, ⟨80, _⟩ => ⟨S128x8192x8, .f32⟩
  | .hbm, ⟨81, _⟩ => ⟨S8x8192x128, .f32⟩
  | .hbm, ⟨82, _⟩ => ⟨S1x1x128, .f32⟩
  | .hbm, ⟨83, _⟩ => ⟨S8x8192x128, .f32⟩
  | .hbm, ⟨84, _⟩ => ⟨S8x8192x128, .f32⟩
  | .hbm, ⟨85, _⟩ => ⟨S8x8192x128, .f32⟩
  | .hbm, ⟨86, _⟩ => ⟨S128x128, .f32⟩
  | .hbm, ⟨87, _⟩ => ⟨S8x8192x128, .f32⟩
  | .hbm, ⟨88, _⟩ => ⟨S1x1x128, .f32⟩
  | .hbm, ⟨89, _⟩ => ⟨S8x8192x128, .f32⟩
  | .hbm, ⟨90, _⟩ => ⟨S8x8192x128, .f32⟩
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_v0 : Ref sig .tc := ⟨.hbm, 21, rfl⟩
abbrev main_v1 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_v2 : Ref sig .tc := ⟨.hbm, 36, rfl⟩
abbrev main_cst : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_cst_0 : Ref sig .tc := ⟨.hbm, 44, rfl⟩
abbrev main_v9 : Ref sig .tc := ⟨.hbm, 45, rfl⟩
abbrev main_v10 : Ref sig .tc := ⟨.hbm, 46, rfl⟩
abbrev main_cst_1 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_c : Ref sig .tc := ⟨.hbm, 67, rfl⟩
abbrev main_v30 : Ref sig .tc := ⟨.hbm, 68, rfl⟩
abbrev main_v31 : Ref sig .tc := ⟨.hbm, 69, rfl⟩
abbrev main_c_2 : Ref sig .tc := ⟨.hbm, 70, rfl⟩
abbrev main_v32 : Ref sig .tc := ⟨.hbm, 71, rfl⟩
abbrev main_v33 : Ref sig .tc := ⟨.hbm, 72, rfl⟩
abbrev main_call2_v0 : Ref sig .tc := ⟨.hbm, 73, rfl⟩
abbrev main_v34 : Ref sig .tc := ⟨.hbm, 74, rfl⟩
abbrev main_cst_3 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩

abbrev nD : Nat := 1
abbrev τ : Topo := Topo.v7x

variable {F : FTy → Type} [FloatOps F]
-- ==== Proof.Run.lean ====
/- The idealized kernel's run with its result: the generated frame's launch, read at the result buffer as well. -/
module

public import proofs.«01_k».proof.Proof.Gen.KernelIdeal.Frame

@[expose] public section

set_option maxRecDepth 16384

noncomputable section

namespace Cert.Proof.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- Every fair execution of the kernel ends with the result buffer at the last boundary's contents, the arguments as launched
    and every counter at zero. -/
theorem run : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.Proof.KernelRun

end
-- ==== Proof.Channel.lean ====
/- ONE CHANNEL of the first kernel as a function of its rows: what the body stores for channel `d` of a point, written
   once for every `d` (`channel`), and the eight stored values of the generated `out0_6` brought to it.
   The 64 chunk states are a recursion over the chunk (`state`), and the matrix of their rows is the concatenation of 64
   pieces given by a function (`states`). -/
module

public import proofs.«01_k».proof.Proof.Gen.KernelIdeal.Frame

@[expose] public section

set_option maxRecDepth 16384

noncomputable section

namespace Cert.Proof.Channel

open Idealize.ShloMosaic Cert.KernelIdeal Cert.KernelIdeal.Gen

variable {F : FTy → Type} [FloatOps F]

/-- Eight rows fit in the 512 rows of all chunks, from row `8 k` on. -/
theorem slices_chunk (k : ℕ) (h : k + 1 ≤ 64) : S512x128.Slices ![8 * k, 0] S8x128 := by
  refine ⟨rfl, fun a => ?_⟩
  match a with
  | ⟨0, _⟩ => show 8 * k + 8 ≤ 512; omega
  | ⟨1, _⟩ => show 0 + 128 ≤ 128; omega

/-- The state with which chunk `k` starts: the one before it scaled by a row, plus the chunk before's own contribution. -/
def state (lam : FVec F S1x128 .f32) (S : FVec F S512x128 .f32) : (k : ℕ) → k ≤ 64 → FVec F S8x128 .f32
  | 0, _ => broadcast S8x128 (Scalar.ofBits .f32 0x00000000#32)
  | k + 1, h => addf (mulf (broadcastTo S8x128 lam broadcasts_S1x128_S8x128) (state lam S k (Nat.le_of_succ_le h)))
      (extractStridedSlice S8x128 ![8 * k, 0] S (slices_chunk k h))

theorem concatenates_states : Shape.Concatenates
    ((List.ofFn fun n : Fin 64 => (⟨S8x128, fun _ => n⟩ : (s : Shape) × (s.Idx → Fin 64))).map (·.1)) S512x128 0 := by
  decide

theorem concatenates_ofFn (f : Fin 64 → FVec F S8x128 .f32) : Shape.Concatenates
    ((List.ofFn fun n : Fin 64 => (⟨S8x128, f n⟩ : (s : Shape) × (s.Idx → F .f32))).map (·.1)) S512x128 0 := by
  have h := concatenates_states
  rw [List.map_ofFn] at h ⊢
  exact h

/-- The states of all 64 chunks, eight rows each. -/
def states (lam : FVec F S1x128 .f32) (S : FVec F S512x128 .f32) : FVec F S512x128 .f32 :=
  concatenate S512x128 0 (List.ofFn fun n : Fin 64 => ⟨S8x128, state lam S n.1 (Nat.le_of_lt n.2)⟩) (concatenates_ofFn _)

/-- The kernel's causal matrix of one channel: entry `(s, t)` is the kernel's value at `t - s`, zero above the diagonal. -/
def toep (dta w : FVec F S1x128 .f32) : FVec F S128x128 .f32 :=
  let dtaT : FVec F S128x1 .f32 := transpose S128x1 [1, 0] dta transposes_S1x128_p1_0_S128x1
  let wT : FVec F S128x1 .f32 := transpose S128x1 [1, 0] w transposes_S1x128_p1_0_S128x1
  let pw : FVec F S128x128 .f32 := exp (mulf (broadcastTo S128x128 dtaT broadcasts_S128x1_S128x128) k0_pay17)
  let prod : FVec F S128x128 .f32 := mulf (broadcastTo S128x128 wT broadcasts_S128x1_S128x128) pw
  let k : FVec F S128 .f32 := multiReduction .add [0] S128 prod 0x00000000#32 reduces_S128x128_S128 (.inl rfl) rfl
  let kRow : FVec F S1x128 .f32 := shapeCast S1x128 (shapeCast S1x128 k shapeCasts_S128_S1x128) shapeCasts_S1x128_S1x128
  let kMat : FVec F S128x128 .f32 := broadcastTo S128x128 kRow broadcasts_S1x128_S128x128
  let wrapped : IVec S128x128 32 := select (cmpi .slt k0_pay20 (broadcast S128x128 0#32)) (addi k0_pay20 (broadcast S128x128 128#32)) k0_pay20
  let idx : IVec S128x128 32 := shapeCast S128x128 (shapeCast S128x128x1 wrapped shapeCasts_S128x128_S128x128x1) shapeCasts_S128x128x1_S128x128
  select k0_pay19 (dynamicGather 1 kMat idx) (broadcast S128x128 (Scalar.ofBits .f32 0x00000000#32))

/-- The powers by which a chunk's inputs enter the state after it. -/
def inPow (dta : FVec F S1x128 .f32) : FVec F S128x128 .f32 :=
  exp (mulf (subf (broadcast S128x128 (Scalar.ofBits .f32 0x42FE0000#32)) k0_pay16)
    (broadcastTo S128x128 dta broadcasts_S1x128_S128x128))

/-- The weighted powers by which a chunk's first state enters its outputs. -/
def outPow (dta w : FVec F S1x128 .f32) : FVec F S128x128 .f32 :=
  mulf (broadcastTo S128x128 (transpose S128x1 [1, 0] w transposes_S1x128_p1_0_S128x1) broadcasts_S128x1_S128x128)
    (exp (mulf (broadcastTo S128x128 (transpose S128x1 [1, 0] dta transposes_S1x128_p1_0_S128x1) broadcasts_S128x1_S128x128)
      (addf k0_pay17 (broadcast S128x128 (Scalar.ofBits .f32 0x3F800000#32)))))

/-- Each chunk's own contribution to the state after it. -/
def contrib (dta : FVec F S1x128 .f32) (X : FVec F S512x128 .f32) : FVec F S512x128 .f32 :=
  matmul dot_S512x128_S128x128_S512x128_1_0_0_1_n_n none X (inPow dta) (constant S512x128 .f32 0x00000000#32)

/-- One channel's outputs, chunk by chunk, from its rows, its inputs and its skip weight. -/
def channel (dta w lam : FVec F S1x128 .f32) (x : FVec F S1x64x8x128 .f32) (skip : FVec F S1x1 .f32) : FVec F S1x64x8x128 .f32 :=
  let X : FVec F S512x128 .f32 := k0_pay28 x
  let Y : FVec F S512x128 .f32 := addf
    (matmul dot_S512x128_S128x128_S512x128_1_0_0_1_n_n none X (toep dta w) (constant S512x128 .f32 0x00000000#32))
    (matmul dot_S512x128_S128x128_S512x128_1_0_0_1_n_n none (states lam (contrib dta X)) (outPow dta w) (constant S512x128 .f32 0x00000000#32))
  shapeCast S1x64x8x128 (shapeCast S64x8x128
    (addf Y (mulf (broadcast S512x128 (extractAt ![0, 0] skip inpos_S1x1_p0_0)) X))
    shapeCasts_S512x128_S64x8x128) shapeCasts_S64x8x128_S1x64x8x128

/-- Row `d` of an 8-row matrix exists. -/
theorem slices_row (d : ℕ) (h : d < 8) : S8x128.Slices ![d, 0] S1x128 := by
  refine ⟨rfl, fun a => ?_⟩
  match a with
  | ⟨0, _⟩ => show d + 1 ≤ 8; omega
  | ⟨1, _⟩ => show 0 + 128 ≤ 128; omega

/-- Row `d` of an 8-row matrix. -/
def row (d : ℕ) (h : d < 8) (v : FVec F S8x128 .f32) : FVec F S1x128 .f32 :=
  extractStridedSlice S1x128 ![d, 0] v (slices_row d h)

/-- Channel `d`'s slab of the inputs lies inside them. -/
theorem inb_slab (d : ℕ) (h : d < 8) : ∀ a, (![d, 0, 0, 0] : Fin 4 → ℕ) a + S1x64x8x128.size a ≤ S8x64x8x128.size a := by
  intro a
  match a with
  | ⟨0, _⟩ => show d + 1 ≤ 8; omega
  | ⟨1, _⟩ => show 0 + 64 ≤ 64; omega
  | ⟨2, _⟩ => show 0 + 8 ≤ 8; omega
  | ⟨3, _⟩ => show 0 + 128 ≤ 128; omega

theorem inb_entry (d : ℕ) (h : d < 8) : ∀ a, (![d, 0] : Fin 2 → ℕ) a + S1x1.size a ≤ S8x1.size a := by
  intro a
  match a with
  | ⟨0, _⟩ => show d + 1 ≤ 8; omega
  | ⟨1, _⟩ => show 0 + 1 ≤ 1; omega

/-- Channel `d`'s slab of a point's inputs or outputs. -/
abbrev slab (d : ℕ) (h : d < 8) : Rect S8x64x8x128 := Rect.unit (s := S8x64x8x128) ![d, 0, 0, 0] S1x64x8x128.size (inb_slab d h)

/-- Channel `d`'s entry of a column of eight. -/
abbrev entry (d : ℕ) (h : d < 8) : Rect S8x1 := Rect.unit (s := S8x1) ![d, 0] S1x1.size (inb_entry d h)

/-- What the body stores for channel `d`, from the point's six blocks. -/
def stored (x0 : Vec F S8x64x8x128 .f32) (x1 x2 x3 : Vec F S8x128 .f32) (x4 x5 : Vec F S8x1 .f32) (d : ℕ) (h : d < 8) :
    FVec F S1x64x8x128 .f32 :=
  channel (row d h (k0_pay591 x0 x1 x2 x3 x4 x5)) (row d h (k0_pay593 x0 x1 x2 x3 x4 x5)) (row d h (k0_pay594 x0 x1 x2 x3 x4 x5))
    (View.ld x0 (slab d h)) (View.ld x5 (entry d h))

/-- Two lists of eight stored values over the channels' slabs are equal when their values are. -/
theorem canon_congr {a7 b7 a6 b6 a5 b5 a4 b4 a3 b3 a2 b2 a1 b1 a0 b0 : Vec F S1x64x8x128 .f32}
    (h7 : a7 = b7) (h6 : a6 = b6) (h5 : a5 = b5) (h4 : a4 = b4) (h3 : a3 = b3) (h2 : a2 = b2) (h1 : a1 = b1) (h0 : a0 = b0) :
    View.canon (Val := Elt F) (s := S8x64x8x128) (e := .f32) [⟨r0_16, a7⟩, ⟨r0_14, a6⟩, ⟨r0_12, a5⟩, ⟨r0_10, a4⟩, ⟨r0_8, a3⟩, ⟨r0_6, a2⟩, ⟨r0_4, a1⟩, ⟨r0_2, a0⟩]
      = View.canon [⟨slab 7 (by decide), b7⟩, ⟨slab 6 (by decide), b6⟩, ⟨slab 5 (by decide), b5⟩, ⟨slab 4 (by decide), b4⟩,
        ⟨slab 3 (by decide), b3⟩, ⟨slab 2 (by decide), b2⟩, ⟨slab 1 (by decide), b1⟩, ⟨slab 0 (by decide), b0⟩] := by
  subst h7 h6 h5 h4 h3 h2 h1 h0; rfl

set_option maxHeartbeats 4000000 in
/-- The block after the body is the eight channels' stored values. -/
theorem out_eq (x0 : Vec F S8x64x8x128 .f32) (x1 x2 x3 : Vec F S8x128 .f32) (x4 x5 : Vec F S8x1 .f32) :
    out0_6 x0 x1 x2 x3 x4 x5 = View.canon
      [⟨slab 7 (by decide), stored x0 x1 x2 x3 x4 x5 7 (by decide)⟩, ⟨slab 6 (by decide), stored x0 x1 x2 x3 x4 x5 6 (by decide)⟩,
       ⟨slab 5 (by decide), stored x0 x1 x2 x3 x4 x5 5 (by decide)⟩, ⟨slab 4 (by decide), stored x0 x1 x2 x3 x4 x5 4 (by decide)⟩,
       ⟨slab 3 (by decide), stored x0 x1 x2 x3 x4 x5 3 (by decide)⟩, ⟨slab 2 (by decide), stored x0 x1 x2 x3 x4 x5 2 (by decide)⟩,
       ⟨slab 1 (by decide), stored x0 x1 x2 x3 x4 x5 1 (by decide)⟩, ⟨slab 0 (by decide), stored x0 x1 x2 x3 x4 x5 0 (by decide)⟩] := by
  unfold out0_6
  refine canon_congr (F := F) ?_ ?_ ?_ ?_ ?_ ?_ ?_ ?_ <;> rfl

end Cert.Proof.Channel

end
-- ==== Proof.Values.lean ====
/- The channel function of `Channel.lean` over the extended reals, read entry by entry: the causal matrix, the powers by
   which inputs enter a state and a state enters outputs, the recursion of the states, and a stored entry as two sums
   and the skip term. -/
module

public import proofs.«01_k».proof.Proof.Channel
public import Idealize.ShloMosaic.Lib.Pointwise
public import Idealize.ShloMosaic.Lib.Pipeline.Value
public import Idealize.ShloMosaic.PureOps.Ideal

@[expose] public section

set_option maxRecDepth 16384

noncomputable section

namespace Cert.Proof.Channel

open Idealize.ShloMosaic Cert.KernelIdeal Cert.KernelIdeal.Gen

theorem toInt_small (k : ℕ) (hk : k < 16384) : (BitVec.ofNat 32 k).toInt = (k : ℤ) := by
  rw [BitVec.toInt_eq_toNat_of_lt (by rw [BitVec.toNat_ofNat]; omega), BitVec.toNat_ofNat]
  omega

theorem select_one {α : Type} (a b : α) : Scalar.select 1#1 a b = a := rfl
theorem select_zero {α : Type} (a b : α) : Scalar.select 0#1 a b = b := rfl

/-- The float of a small index word is the number it counts. -/
theorem sitofp_ofNat (k : ℕ) (hk : k < 16384) :
    FloatOps.sitofp (F := Ideal) FTy.f32 (BitVec.ofNat 32 k) = (((k : ℕ) : ℝ) : EReal) := by
  have h := toInt_small k hk
  show (((BitVec.ofNat 32 k).toInt : ℝ) : EReal) = _
  rw [h]; norm_cast

theorem ofBits_127 : Ideal.ofBits FTy.f32 1123942400#32 = ((127 : ℝ) : EReal) := by
  simp [Ideal.ofBits, Ideal.ieee, -EReal.coe_mul]; norm_num

theorem ofBits_128 : Ideal.ofBits FTy.f32 1124073472#32 = ((128 : ℝ) : EReal) := by
  simp [Ideal.ofBits, Ideal.ieee, -EReal.coe_mul]; norm_num

theorem inPow_apply (dta : FVec Ideal S1x128 .f32) (s n : Fin 128) :
    inPow dta (ix2 s n) = Ideal.exp (dta (ix2 0 n) * (((127 - s.1 : ℕ) : ℝ) : EReal)) := by
  pointwise [inPow, k0_pay16]
  rw [sitofp_ofNat _ (by omega), ofBits_127, ← EReal.coe_sub, mul_comm, Nat.cast_sub (by omega)]
  norm_num

theorem outPow_apply (dta w : FVec Ideal S1x128 .f32) (n t : Fin 128) :
    outPow dta w (ix2 n t) = w (ix2 0 n) * Ideal.exp (dta (ix2 0 n) * (((t.1 + 1 : ℕ) : ℝ) : EReal)) := by
  pointwise [outPow, k0_pay17]
  rw [sitofp_ofNat _ (by omega)]
  push_cast
  rfl

/-- The difference of two small index words where it is not negative. -/
theorem subi_of_le (s t : ℕ) (h : s ≤ t) (ht : t < 16384) :
    IntOp.subi (BitVec.ofNat 32 t) (BitVec.ofNat 32 s) = BitVec.ofNat 32 (t - s) := by
  apply BitVec.eq_of_toNat_eq
  show (BitVec.ofNat 32 t - BitVec.ofNat 32 s).toNat = _
  rw [BitVec.toNat_sub]
  simp only [BitVec.toNat_ofNat]
  omega

/-- A small index word is not negative. -/
theorem sge_ofNat (k : ℕ) (hk : k < 16384) : IntOp.cmpi .sge (BitVec.ofNat 32 k) 0#32 = 1#1 := by
  have h := toInt_small k hk
  simp [IntOp.cmpi, BitVec.sle, h]

theorem slt_ofNat (k : ℕ) (hk : k < 16384) : IntOp.cmpi .slt (BitVec.ofNat 32 k) 0#32 = 0#1 := by
  have h := toInt_small k hk
  simp [IntOp.cmpi, BitVec.slt, h, Int.not_lt.mpr (Int.natCast_nonneg k)]

/-- The difference of two small index words where it is negative. -/
theorem sge_subi_of_lt (s t : ℕ) (h : t < s) (hs : s < 16384) :
    IntOp.cmpi .sge (IntOp.subi (BitVec.ofNat 32 t) (BitVec.ofNat 32 s)) 0#32 = 0#1 := by
  have h : (IntOp.subi (BitVec.ofNat 32 t) (BitVec.ofNat 32 s)).toInt < 0 := by
    show (BitVec.ofNat 32 t - BitVec.ofNat 32 s).toInt < 0
    rw [BitVec.toInt_sub, toInt_small _ hs, toInt_small _ (by omega)]; rw [Int.bmod_eq_of_le (by omega) (by omega)]; omega
  simp [IntOp.cmpi, BitVec.sle, Int.not_le.mpr h]

theorem toep_apply (dta w : FVec Ideal S1x128 .f32) (s t : Fin 128) :
    toep dta w (ix2 s t) = if s.1 ≤ t.1 then
      ∑ n : Fin 128, w (ix2 0 n) * Ideal.exp (dta (ix2 0 n) * (((t.1 - s.1 : ℕ) : ℝ) : EReal)) else 0 := by
  pointwise [toep, k0_pay17, k0_pay20, k0_pay19, k0_pay18]
  by_cases h : s.1 ≤ t.1
  · rw [if_pos h, subi_of_le _ _ h (by omega), sge_ofNat _ (by omega)]
    simp only [select_one, select_zero, slt_ofNat _ (show t.1 - s.1 < 16384 by omega)]
    refine Finset.sum_congr rfl fun n _ => ?_
    have : (BitVec.ofNat 32 (t.1 - s.1)).toNat % 128 = t.1 - s.1 := by
      rw [BitVec.toNat_ofNat]; omega
    rw [this, sitofp_ofNat _ (by omega)]
  · rw [if_neg h, sge_subi_of_lt _ _ (by omega) (by omega)]
    rfl

theorem contrib_apply (dta : FVec Ideal S1x128 .f32) (x : FVec Ideal S1x64x8x128 .f32) (c : Fin 64) (b : Fin 8) (n : Fin 128)
    (h : c.1 * 8 + b.1 < 512) :
    contrib dta (k0_pay28 x) (ix2 ⟨c.1 * 8 + b.1, h⟩ n)
      = ∑ s : Fin 128, x (ix4 0 c b s) * Ideal.exp (dta (ix2 0 n) * (((127 - s.1 : ℕ) : ℝ) : EReal)) := by
  pointwise [contrib, k0_pay28]
  refine Finset.sum_congr rfl fun s _ => ?_
  rw [inPow_apply]

theorem state_zero_apply (lam : FVec Ideal S1x128 .f32) (S : FVec Ideal S512x128 .f32) (h : 0 ≤ 64) (b : Fin 8) (n : Fin 128) :
    state lam S 0 h (ix2 b n) = 0 := by
  pointwise [state]

theorem state_succ_apply (lam : FVec Ideal S1x128 .f32) (S : FVec Ideal S512x128 .f32) (k : ℕ) (h : k + 1 ≤ 64) (b : Fin 8) (n : Fin 128) :
    state lam S (k + 1) h (ix2 b n)
      = lam (ix2 0 n) * state lam S k (Nat.le_of_succ_le h) (ix2 b n) + S (ix2 ⟨8 * k + b.1, by omega⟩ n) := by
  pointwise [state]

/-- A row of the states' matrix is a row of its chunk's state. -/
theorem states_apply (lam : FVec Ideal S1x128 .f32) (S : FVec Ideal S512x128 .f32) (c : Fin 64) (b : Fin 8) (n : Fin 128)
    (h : c.1 * 8 + b.1 < 512) :
    states lam S (ix2 ⟨c.1 * 8 + b.1, h⟩ n) = state lam S c.1 (Nat.le_of_lt c.2) (ix2 b n) := by
  unfold states
  refine concatenate_ofFn_apply (t := S512x128) (s₁ := S8x128) 0 (fun n : Fin 64 => state lam S n.1 (Nat.le_of_lt n.2)) _
    rfl 8 rfl _ c ?_ (ix2 b n) ?_ ?_
  · show (c.1 * 8 + b.1) / 8 = c.1; omega
  · show b.1 = (c.1 * 8 + b.1) % 8; omega
  · intro a ha
    match a with
    | ⟨0, _⟩ => exact absurd rfl ha
    | ⟨1, _⟩ => rfl

theorem channel_apply (dta w lam : FVec Ideal S1x128 .f32) (x : FVec Ideal S1x64x8x128 .f32) (skip : FVec Ideal S1x1 .f32)
    (c : Fin 64) (b : Fin 8) (t : Fin 128) :
    channel dta w lam x skip (ix4 0 c b t)
      = ∑ s : Fin 128, x (ix4 0 c b s) * toep dta w (ix2 s t)
        + ∑ n : Fin 128, state lam (contrib dta (k0_pay28 x)) c.1 (Nat.le_of_lt c.2) (ix2 b n) * outPow dta w (ix2 n t)
        + skip (ix2 0 0) * x (ix4 0 c b t) := by
  simp only [← states_apply _ _ _ _ _ (show c.1 * 8 + b.1 < 512 by omega)]
  pointwise [channel, k0_pay28]

end Cert.Proof.Channel

end
-- ==== Proof.Scan.lean ====
/- The mathematics of the chunked scan over the reals: a sequence cut in 64 chunks of 128, a state carried from chunk to
   chunk by the power `λ ^ 128`, gives at each position the causal convolution with the kernel `k m = ∑ n, w n * λ n ^ m`.
   And the bridge from the extended reals: a power as an exponential of a multiple, and sums and products of real entries. -/
module

public import Idealize.ShloMosaic.PureOps.Ideal
public import Mathlib.Algebra.BigOperators.Fin

@[expose] public section

set_option maxRecDepth 16384

noncomputable section

namespace Cert.Proof.Scan

open Idealize.ShloMosaic

/-- The decay of one chunk's step: `exp a` as a real (for `a` below infinity). -/
def decay (a : EReal) : ℝ := (Ideal.exp a).toReal

theorem exp_eq_decay (a : EReal) (h : a ≠ ⊤) : Ideal.exp a = ((decay a : ℝ) : EReal) := by
  unfold decay
  induction a with
  | bot => simp
  | top => exact absurd rfl h
  | coe r => simp

/-- The exponential of a natural multiple is a power of the decay. -/
theorem exp_mul_nat (a : EReal) (h : a ≠ ⊤) (k : ℕ) :
    Ideal.exp (a * (((k : ℕ) : ℝ) : EReal)) = ((decay a ^ k : ℝ) : EReal) := by
  unfold decay
  induction a with
  | bot =>
    rcases Nat.eq_zero_or_pos k with rfl | hk
    · simpa using Ideal.exp_coe 0
    · rw [EReal.bot_mul_coe_of_pos (by exact_mod_cast hk)]
      simp [hk.ne']
  | top => exact absurd rfl h
  | coe r =>
    rw [← EReal.coe_mul, Ideal.exp_coe, Ideal.exp_coe, EReal.toReal_coe, ← Real.exp_nat_mul, mul_comm]

/-- A sum of reals, cast, is the sum of the casts. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The state with which chunk `c` starts: every earlier chunk's inputs, each weighted by its distance. -/
def carried (lam : ℝ) (x : ℕ → ℕ → ℝ) (c : ℕ) : ℝ :=
  ∑ c' ∈ Finset.range c, lam ^ (128 * (c - 1 - c')) * ∑ s : Fin 128, x c' s * lam ^ (127 - s.1)

theorem carried_zero (lam : ℝ) (x : ℕ → ℕ → ℝ) : carried lam x 0 = 0 := by simp [carried]

theorem carried_succ (lam : ℝ) (x : ℕ → ℕ → ℝ) (c : ℕ) :
    carried lam x (c + 1) = lam ^ 128 * carried lam x c + ∑ s : Fin 128, x c s * lam ^ (127 - s.1) := by
  unfold carried
  rw [Finset.sum_range_succ, Finset.mul_sum (Finset.range c)]
  congr 1
  · refine Finset.sum_congr rfl fun c' hc' => ?_
    have := Finset.mem_range.1 hc'
    rw [← mul_assoc, ← pow_add]
    congr 2
    omega
  · rw [show c + 1 - 1 - c = 0 by omega]; simp

/-- The kernel of the convolution. -/
def kern (w lam : Fin 128 → ℝ) (m : ℕ) : ℝ := ∑ n, w n * lam n ^ m

/-- A state's part of an output is the earlier chunks' part of the convolution. -/
theorem carried_out (w lam : Fin 128 → ℝ) (x : ℕ → ℕ → ℝ) (c t : ℕ) (ht : t < 128) :
    ∑ n, carried (lam n) x c * (w n * lam n ^ (t + 1))
      = ∑ c' ∈ Finset.range c, ∑ s : Fin 128, x c' s * kern w lam (128 * c + t - (128 * c' + s.1)) := by
  unfold carried kern
  simp only [Finset.sum_mul, Finset.mul_sum]
  rw [Finset.sum_comm]
  refine Finset.sum_congr rfl fun c' hc' => ?_
  have := Finset.mem_range.1 hc'
  rw [Finset.sum_comm]
  refine Finset.sum_congr rfl fun s _ => Finset.sum_congr rfl fun n _ => ?_
  have e : 128 * c + t - (128 * c' + s.1) = 128 * (c - 1 - c') + (127 - s.1) + (t + 1) := by omega
  rw [e, pow_add, pow_add]
  ring

/-- A sum over 8192 positions is a sum over chunks and places in a chunk. -/
theorem sum_positions (f : ℕ → ℝ) :
    ∑ j : Fin 8192, f j.1 = ∑ c' : Fin 64, ∑ s : Fin 128, f (128 * c'.1 + s.1) := by
  rw [← Fintype.sum_prod_type', ← (finProdFinEquiv (m := 64) (n := 128)).sum_comp (fun j : Fin (64 * 128) => f j.1)]
  refine Finset.sum_congr rfl fun p _ => ?_
  rw [finProdFinEquiv_apply_val, add_comm]

/-- A sum over the chunks whose later terms vanish ends at chunk `c`. -/
theorem sum_chunks (g : ℕ → ℝ) (c : Fin 64) (hg : ∀ i, c.1 < i → g i = 0) :
    ∑ c' : Fin 64, g c'.1 = g c.1 + ∑ i ∈ Finset.range c.1, g i := by
  rw [Fin.sum_univ_eq_sum_range g 64, add_comm, ← Finset.sum_range_succ]
  symm
  refine Finset.sum_subset (Finset.range_subset_range.2 (show c.1 + 1 ≤ 64 from c.2)) fun i _ hi => hg i ?_
  by_contra hlt
  exact hi (Finset.mem_range.2 (by omega))

/-- THE SCAN IS THE CONVOLUTION: a chunk's own causal part and the carried state's part make the sum over all positions up to
    this one. -/
theorem scan_eq (w lam : Fin 128 → ℝ) (x : ℕ → ℕ → ℝ) (c : Fin 64) (t : Fin 128) :
    (∑ s : Fin 128, x c s * (if s.1 ≤ t.1 then kern w lam (t.1 - s.1) else 0))
        + ∑ n, carried (lam n) x c * (w n * lam n ^ (t.1 + 1))
      = ∑ j : Fin 8192, (if j.1 ≤ 128 * c.1 + t.1 then kern w lam (128 * c.1 + t.1 - j.1) else 0) * x (j.1 / 128) (j.1 % 128) := by
  rw [carried_out w lam x c t t.2,
    sum_positions (fun j => (if j ≤ 128 * c.1 + t.1 then kern w lam (128 * c.1 + t.1 - j) else 0) * x (j / 128) (j % 128)),
    sum_chunks (fun i => ∑ s : Fin 128, (if 128 * i + s.1 ≤ 128 * c.1 + t.1 then kern w lam (128 * c.1 + t.1 - (128 * i + s.1)) else 0)
      * x ((128 * i + s.1) / 128) ((128 * i + s.1) % 128)) c]
  · congr 1
    · refine Finset.sum_congr rfl fun s _ => ?_
      have hs := s.2
      rw [show (128 * c.1 + s.1) / 128 = c.1 by omega, show (128 * c.1 + s.1) % 128 = s.1 by omega]
      by_cases h : s.1 ≤ t.1
      · rw [if_pos h, if_pos (by omega), mul_comm, show 128 * c.1 + t.1 - (128 * c.1 + s.1) = t.1 - s.1 by omega]
      · rw [if_neg h, if_neg (by omega), mul_zero, zero_mul]
    · refine Finset.sum_congr rfl fun i hi => Finset.sum_congr rfl fun s _ => ?_
      have hs := s.2
      have := Finset.mem_range.1 hi
      rw [show (128 * i + s.1) / 128 = i by omega, show (128 * i + s.1) % 128 = s.1 by omega, if_pos (by omega), mul_comm]
  · intro i hi
    refine Finset.sum_eq_zero fun s _ => ?_
    have hs := s.2
    have ht := t.2
    rw [if_neg (by omega), zero_mul]

end Cert.Proof.Scan

end
-- ==== Proof.Equation.lean ====
/- A stored entry of the kernel's first region, for finite inputs and weights: the causal convolution of the channel's
   sequence with the channel's kernel, plus the skip term. -/
module

public import proofs.«01_k».proof.Proof.Values
public import proofs.«01_k».proof.Proof.Scan

@[expose] public section

set_option maxRecDepth 16384

noncomputable section

namespace Cert.Proof.Channel

open Idealize.ShloMosaic Cert.KernelIdeal Cert.KernelIdeal.Gen Cert.Proof.Scan

variable (dta w lam : FVec Ideal S1x128 .f32) (x : FVec Ideal S1x64x8x128 .f32) (skip : FVec Ideal S1x1 .f32)
  (wr : Fin 128 → ℝ) (xr : ℕ → ℕ → ℝ) (b : Fin 8)

/-- The states are the carried sums. -/
theorem state_eq (hd : ∀ n : Fin 128, dta (ix2 0 n) ≠ ⊤)
    (hl : ∀ n : Fin 128, lam (ix2 0 n) = Ideal.exp (dta (ix2 0 n) * (((128 : ℕ) : ℝ) : EReal)))
    (hx : ∀ c : Fin 64, ∀ s : Fin 128, x (ix4 0 c b s) = ((xr c s : ℝ) : EReal)) (n : Fin 128) :
    ∀ k (h : k ≤ 64), state lam (contrib dta (k0_pay28 x)) k h (ix2 b n)
      = ((carried (decay (dta (ix2 0 n))) xr k : ℝ) : EReal)
  | 0, h => by rw [state_zero_apply, carried_zero]; rfl
  | k + 1, h => by
    have hr : (⟨8 * k + b.1, by omega⟩ : Fin 512) = ⟨(⟨k, h⟩ : Fin 64).1 * 8 + b.1, by show k * 8 + b.1 < 512; omega⟩ :=
      Fin.ext (by show 8 * k + b.1 = k * 8 + b.1; omega)
    rw [state_succ_apply, state_eq hd hl hx n k (Nat.le_of_succ_le h), hl, exp_mul_nat _ (hd n), hr, contrib_apply, carried_succ,
      EReal.coe_add, EReal.coe_mul, coe_sum]
    congr 1
    refine Finset.sum_congr rfl fun s _ => ?_
    rw [hx, exp_mul_nat _ (hd n), EReal.coe_mul]

/-- The causal matrix holds the convolution's kernel. -/
theorem toep_eq (hd : ∀ n : Fin 128, dta (ix2 0 n) ≠ ⊤) (hw : ∀ n : Fin 128, w (ix2 0 n) = ((wr n : ℝ) : EReal)) (s t : Fin 128) :
    toep dta w (ix2 s t)
      = (((if s.1 ≤ t.1 then kern wr (fun n => decay (dta (ix2 0 n))) (t.1 - s.1) else 0 : ℝ)) : EReal) := by
  rw [toep_apply]
  split
  · unfold kern
    rw [coe_sum]
    refine Finset.sum_congr rfl fun n _ => ?_
    rw [hw, exp_mul_nat _ (hd n), EReal.coe_mul]
  · rfl

/-- A STORED ENTRY IS THE CONVOLUTION at its position, plus the skip term. -/
theorem channel_eq (hd : ∀ n : Fin 128, dta (ix2 0 n) ≠ ⊤) (hw : ∀ n : Fin 128, w (ix2 0 n) = ((wr n : ℝ) : EReal))
    (hl : ∀ n : Fin 128, lam (ix2 0 n) = Ideal.exp (dta (ix2 0 n) * (((128 : ℕ) : ℝ) : EReal)))
    (hx : ∀ c : Fin 64, ∀ s : Fin 128, x (ix4 0 c b s) = ((xr c s : ℝ) : EReal)) (c : Fin 64) (t : Fin 128) :
    channel dta w lam x skip (ix4 0 c b t)
      = ((∑ j : Fin 8192, (if j.1 ≤ 128 * c.1 + t.1 then kern wr (fun n => decay (dta (ix2 0 n))) (128 * c.1 + t.1 - j.1) else 0)
            * xr (j.1 / 128) (j.1 % 128) : ℝ) : EReal)
        + skip (ix2 0 0) * x (ix4 0 c b t) := by
  rw [channel_apply, ← scan_eq, EReal.coe_add, coe_sum, coe_sum]
  congr 2
  · refine Finset.sum_congr rfl fun s _ => ?_
    rw [hx, toep_eq dta w wr hd hw, EReal.coe_mul]
  · refine Finset.sum_congr rfl fun n _ => ?_
    rw [state_eq dta lam x xr b hd hl hx, outPow_apply, hw, exp_mul_nat _ (hd n), EReal.coe_mul, EReal.coe_mul]

end Cert.Proof.Channel

end
-- ==== Proof.Spec.lean ====
/- The quantities both programs compute, as functions of extended reals: softplus, the exponent of a channel's decay, the
   weight of a state, the convolution of a channel's sequence, and a channel's output before the projection. With the facts
   under which they are real numbers. -/
module

public import proofs.«01_k».proof.Proof.Scan

@[expose] public section

set_option maxRecDepth 16384

noncomputable section

namespace Cert.Proof.Spec

open Idealize.ShloMosaic Cert.Proof.Scan

/-- `log (1 + e ^ v)`, in the form both programs write. -/
def softplus (v : EReal) : EReal := max v 0 + Ideal.log1p (Ideal.exp (-FloatOps.absf (F := Ideal) (φ := .f32) v))

/-- The exponent of a channel's decay per step: `A * dt`. -/
def expo (la ld : EReal) : EReal := -softplus la * (softplus ld + Ideal.ofBits FTy.f32 981668463#32)

/-- The divisor `A + EPS`. -/
def divisor (la : EReal) : EReal := -softplus la + Ideal.ofBits FTy.f32 897988541#32

/-- The weight of a state in its channel's output: `C * dB`. -/
def weight (la b c ld : EReal) : EReal := c * (Ideal.div (Ideal.exp (expo la ld) - 1) (divisor la) * b)

theorem log1p_exp_nonneg (z : EReal) : 0 ≤ Ideal.log1p (Ideal.exp z) := by
  unfold Ideal.log1p
  induction z with
  | bot => rw [Ideal.exp_bot, add_zero, ← EReal.coe_one, Ideal.log_coe, if_neg (by norm_num)]; simp
  | top => rw [Ideal.exp_top, EReal.add_top_of_ne_bot (by decide), Ideal.log_top]; exact le_top
  | coe r =>
    have h := Real.exp_pos r
    rw [Ideal.exp_coe, ← EReal.coe_one, ← EReal.coe_add, Ideal.log_coe, if_neg (by linarith)]
    exact_mod_cast Real.log_nonneg (by linarith)

theorem softplus_nonneg (v : EReal) : 0 ≤ softplus v := add_nonneg (le_max_right _ _) (log1p_exp_nonneg _)

theorem min_delta_nonneg : (0 : EReal) ≤ Ideal.ofBits FTy.f32 981668463#32 := by
  simp [Ideal.ofBits, Ideal.ieee, -EReal.coe_mul]

/-- The exponent is never plus infinity: it is the negative of a product of two numbers not below zero. -/
theorem expo_ne_top (la ld : EReal) : expo la ld ≠ ⊤ := by
  unfold expo
  rw [EReal.neg_mul]
  intro h
  have h0 : 0 ≤ softplus la * (softplus ld + Ideal.ofBits FTy.f32 981668463#32) :=
    mul_nonneg (softplus_nonneg _) (add_nonneg (softplus_nonneg _) min_delta_nonneg)
  rw [EReal.neg_eq_top_iff] at h
  rw [h] at h0
  exact absurd h0 (by simp)

/-- A reciprocal is a real number. -/
theorem inv_real (y : EReal) : ∃ r : ℝ, y⁻¹ = (r : EReal) := by
  induction y with
  | bot => exact ⟨0, by simp⟩
  | top => exact ⟨0, by simp⟩
  | coe r => exact ⟨r⁻¹, (EReal.coe_inv r).symm⟩

/-- With real matrix entries and a divisor that is not zero the weight is real. -/
theorem weight_real (la b c ld : EReal) (hb : ∃ r : ℝ, b = (r : EReal)) (hc : ∃ r : ℝ, c = (r : EReal)) (hd : divisor la ≠ 0) :
    weight la b c ld = ((weight la b c ld).toReal : EReal) := by
  obtain ⟨b, rfl⟩ := hb
  obtain ⟨c, rfl⟩ := hc
  obtain ⟨i, hi⟩ := inv_real (divisor la)
  have h : weight la b c ld = ((c * ((decay (expo la ld) - 1) * i * b) : ℝ) : EReal) := by
    unfold weight Ideal.div
    rw [if_neg hd, hi, exp_eq_decay _ (expo_ne_top _ _)]
    push_cast
    rfl
  rw [h, EReal.toReal_coe]

variable (x : Fin 8 → Fin 8192 → Fin 128 → EReal) (la B C : Fin 128 → Fin 128 → EReal) (ld sk : Fin 128 → EReal)

/-- The causal convolution of channel `d` of sequence `b` with the channel's kernel, at position `l`. -/
def conv (b : Fin 8) (l : ℕ) (d : Fin 128) : ℝ :=
  ∑ j : Fin 8192, (if j.1 ≤ l then
    kern (fun n => (weight (la d n) (B d n) (C d n) (ld d)).toReal) (fun n => decay (expo (la d n) (ld d))) (l - j.1) else 0)
      * (x b j d).toReal

/-- A channel's output at a position: the convolution and the skip term. -/
def output (b : Fin 8) (l : Fin 8192) (d : Fin 128) : EReal := (conv x la B C ld b l.1 d : EReal) + sk d * x b l d

end Cert.Proof.Spec

end
-- ==== Proof.Block.lean ====
/- One grid point of the kernel's first region: the block it leaves, read at an entry, is the convolution of the entry's
   channel at the entry's position and the skip term. -/
module

public import proofs.«01_k».proof.Proof.Equation
public import proofs.«01_k».proof.Proof.Spec

@[expose] public section

set_option maxRecDepth 16384

noncomputable section

namespace Cert.Proof.Channel

open Idealize.ShloMosaic Cert.KernelIdeal Cert.KernelIdeal.Gen Cert.Proof.Scan Cert.Proof.Spec

variable (x0 : Vec Ideal S8x64x8x128 .f32) (x1 x2 x3 : Vec Ideal S8x128 .f32) (x4 x5 : Vec Ideal S8x1 .f32)

theorem pay_expo (d : Fin 8) (n : Fin 128) : k0_pay591 x0 x1 x2 x3 x4 x5 (ix2 d n) = expo (x1 (ix2 d n)) (x4 (ix2 d 0)) := by
  pointwise [k0_pay591, k0_pay12, k0_pay11]
  simp only [ne_eq, not_true_eq_false, if_false, zero_sub]
  rfl

theorem pay_weight (d : Fin 8) (n : Fin 128) :
    k0_pay593 x0 x1 x2 x3 x4 x5 (ix2 d n) = weight (x1 (ix2 d n)) (x2 (ix2 d n)) (x3 (ix2 d n)) (x4 (ix2 d 0)) := by
  pointwise [k0_pay593, k0_pay592, k0_pay13, k0_pay14, k0_pay591, k0_pay12, k0_pay11]
  simp only [ne_eq, not_true_eq_false, if_false, zero_sub]
  rfl

theorem pay_step (d : Fin 8) (n : Fin 128) :
    k0_pay594 x0 x1 x2 x3 x4 x5 (ix2 d n) = Ideal.exp (expo (x1 (ix2 d n)) (x4 (ix2 d 0)) * (((128 : ℕ) : ℝ) : EReal)) := by
  pointwise [k0_pay594, k0_pay15, k0_pay591, k0_pay12, k0_pay11]
  simp only [ne_eq, not_true_eq_false, if_false, zero_sub, ofBits_128]
  rfl

/-- The block of stored values as one function of the entry. -/
def blockOut : Vec Ideal S8x64x8x128 .f32 := fun y =>
  stored x0 x1 x2 x3 x4 x5 (y 0).1 (y 0).2 (ix4 0 (y 1) (y 2) (y 3))

theorem stored_eq_blockOut (d : ℕ) (h : d < 8) (z : S1x64x8x128.Idx) :
    stored x0 x1 x2 x3 x4 x5 d h z = blockOut x0 x1 x2 x3 x4 x5 ((slab d h).emb z) := by
  have key : ∀ (d' : ℕ) (h' : d' < 8) (z' : S1x64x8x128.Idx), d' = d → z' = z →
      stored x0 x1 x2 x3 x4 x5 d h z = stored x0 x1 x2 x3 x4 x5 d' h' z' := by
    rintro _ _ _ rfl rfl; rfl
  have h0 : (z 0).1 < 1 := (z 0).2
  refine key _ _ _ ?_ ?_
  · show d + 1 * (z 0).1 = d
    omega
  · funext a
    match a with
    | ⟨0, _⟩ => exact Fin.ext (show 0 = (z 0).1 by omega)
    | ⟨1, _⟩ => exact Fin.ext (show 0 + 1 * (z 1).1 = (z 1).1 by omega)
    | ⟨2, _⟩ => exact Fin.ext (show 0 + 1 * (z 2).1 = (z 2).1 by omega)
    | ⟨3, _⟩ => exact Fin.ext (show 0 + 1 * (z 3).1 = (z 3).1 by omega)

theorem out_apply (y : S8x64x8x128.Idx) : out0_6 x0 x1 x2 x3 x4 x5 y = blockOut x0 x1 x2 x3 x4 x5 y := by
  rw [out_eq]
  refine View.canon_apply_of_pieces _ _ ?_ y ?_
  · simp only [List.mem_cons, List.not_mem_nil, or_false]
    rintro p (rfl | rfl | rfl | rfl | rfl | rfl | rfl | rfl) z <;> exact stored_eq_blockOut x0 x1 x2 x3 x4 x5 _ _ z
  · exact cover0_6 _ _ _ _ _ _ _ _ y

/-- THE BLOCK AT AN ENTRY. -/
theorem block_value (xr : ℕ → ℕ → ℝ) (d b : Fin 8)
    (hw : ∀ n : Fin 128, weight (x1 (ix2 d n)) (x2 (ix2 d n)) (x3 (ix2 d n)) (x4 (ix2 d 0))
      = ((weight (x1 (ix2 d n)) (x2 (ix2 d n)) (x3 (ix2 d n)) (x4 (ix2 d 0))).toReal : EReal))
    (hx : ∀ c : Fin 64, ∀ s : Fin 128, x0 (ix4 d c b s) = ((xr c s : ℝ) : EReal)) (c : Fin 64) (t : Fin 128) :
    out0_6 x0 x1 x2 x3 x4 x5 (ix4 d c b t)
      = ((∑ j : Fin 8192, (if j.1 ≤ 128 * c.1 + t.1 then
          kern (fun n => (weight (x1 (ix2 d n)) (x2 (ix2 d n)) (x3 (ix2 d n)) (x4 (ix2 d 0))).toReal)
            (fun n => decay (expo (x1 (ix2 d n)) (x4 (ix2 d 0)))) (128 * c.1 + t.1 - j.1) else 0)
            * xr (j.1 / 128) (j.1 % 128) : ℝ) : EReal)
        + x5 (ix2 d 0) * x0 (ix4 d c b t) := by
  have hdta : ∀ n : Fin 128, row d.1 d.2 (k0_pay591 x0 x1 x2 x3 x4 x5) (ix2 0 n) = expo (x1 (ix2 d n)) (x4 (ix2 d 0)) := by
    intro n
    rw [← pay_expo x0 x1 x2 x3 x4 x5]
    pointwise [row]
  have hwv : ∀ n : Fin 128, row d.1 d.2 (k0_pay593 x0 x1 x2 x3 x4 x5) (ix2 0 n)
      = ((weight (x1 (ix2 d n)) (x2 (ix2 d n)) (x3 (ix2 d n)) (x4 (ix2 d 0))).toReal : EReal) := by
    intro n
    rw [← hw, ← pay_weight x0 x1 x2 x3 x4 x5]
    pointwise [row]
  have hl : ∀ n : Fin 128, row d.1 d.2 (k0_pay594 x0 x1 x2 x3 x4 x5) (ix2 0 n)
      = Ideal.exp (row d.1 d.2 (k0_pay591 x0 x1 x2 x3 x4 x5) (ix2 0 n) * (((128 : ℕ) : ℝ) : EReal)) := by
    intro n
    rw [hdta, ← pay_step x0 x1 x2 x3 x4 x5]
    pointwise [row]
  have hxv : ∀ c : Fin 64, ∀ s : Fin 128, View.ld x0 (slab d.1 d.2) (ix4 0 c b s) = x0 (ix4 d c b s) := by
    intro c s
    pointwise []
  have hs : View.ld x5 (entry d.1 d.2) (ix2 0 0) = x5 (ix2 d 0) := by
    pointwise []
  rw [out_apply]
  show stored x0 x1 x2 x3 x4 x5 d.1 d.2 (ix4 0 c b t) = _
  unfold stored
  rw [channel_eq (hd := fun n => by rw [hdta]; exact expo_ne_top _ _) (hw := hwv) (hl := hl)
    (hx := fun c s => (hxv c s).trans (hx c s)), hs, hxv]
  simp only [hdta]

end Cert.Proof.Channel

end
-- ==== Proof.Region0.lean ====
/- The kernel's first region: the array it leaves holds each channel's output at each position, laid out by channel, chunk,
   sequence and place in the chunk. -/
module

public import proofs.«01_k».proof.Proof.Block
public import Idealize.ShloMosaic.Lib.Pipeline.ValueKit
public import Idealize.ShloMosaic.Lib.Claim

@[expose] public section

set_option maxRecDepth 16384

noncomputable section

namespace Cert.Proof.Channel

open Idealize.ShloMosaic Idealize.ShloMosaic.TcCoe Idealize.SL.Sem
open Cert.KernelIdeal Cert.KernelIdeal.Gen Cert.Proof.Scan Cert.Proof.Spec
open Idealize.ShloMosaic.Pipeline (Dat)

variable (V : (c : Dev nD) → (b : Ref sig .tc) → Buf (Elt Ideal) ((c : Thread nD τ).loc b))

/-- The windows' block indices: point `t` takes the channels `8 t … 8 t + 7`. -/
theorem index0 : ∀ t : Fin cfg0.N, win0_0.index t = ![t.val, 0, 0, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0, 0, 0] :=
  (by decide +kernel : ∀ t : Fin grid0.N, _)

/-- The channel an entry of point `t`'s block belongs to. -/
def chan (t : Fin cfg0.N) (d : Fin 8) : Fin 128 := ⟨t.val * 8 + d.val, by have : t.val < 16 := t.2; omega⟩

theorem blk0_0 (c : Dev nD) (t : Fin cfg0.N) (d b : Fin 8) (k : Fin 64) (s : Fin 128) :
    iblk0 V c 0 t (ix4 d k b s) = V c main_v1 (ix4 (chan t d) k b s) := by
  blk_ext! [iblk0, index0 t, chan]

theorem blk0_1 (c : Dev nD) (t : Fin cfg0.N) (d : Fin 8) (n : Fin 128) :
    iblk0 V c 1 t (ix2 d n) = V c main_arg1 (ix2 (chan t d) n) := by
  blk_ext! [iblk0, index0 t, chan]

theorem blk0_2 (c : Dev nD) (t : Fin cfg0.N) (d : Fin 8) (n : Fin 128) :
    iblk0 V c 2 t (ix2 d n) = V c main_arg2 (ix2 (chan t d) n) := by
  blk_ext! [iblk0, index0 t, chan]

theorem blk0_3 (c : Dev nD) (t : Fin cfg0.N) (d : Fin 8) (n : Fin 128) :
    iblk0 V c 3 t (ix2 d n) = V c main_arg3 (ix2 (chan t d) n) := by
  blk_ext! [iblk0, index0 t, chan]

theorem blk0_4 (c : Dev nD) (t : Fin cfg0.N) (d : Fin 8) :
    iblk0 V c 4 t (ix2 d 0) = V c main_v2 (ix2 (chan t d) 0) := by
  blk_ext! [iblk0, index0 t, chan]

theorem blk0_5 (c : Dev nD) (t : Fin cfg0.N) (d : Fin 8) :
    iblk0 V c 5 t (ix2 d 0) = V c main_v3 (ix2 (chan t d) 0) := by
  blk_ext! [iblk0, index0 t, chan]

/-- The position of place `s` of chunk `k`. -/
def pos (k : Fin 64) (s : Fin 128) : Fin 8192 := ⟨128 * k.val + s.val, by omega⟩

/-- THE FIRST REGION'S ARRAY, from real inputs and weights. -/
theorem region0 (c : Dev nD) (x : Fin 8 → Fin 8192 → Fin 128 → EReal) (la B C : Fin 128 → Fin 128 → EReal) (ld sk : Fin 128 → EReal)
    (hX : ∀ d k b s, V c main_v1 (ix4 d k b s) = x b (pos k s) d)
    (hla : ∀ d n, V c main_arg1 (ix2 d n) = la d n) (hB : ∀ d n, V c main_arg2 (ix2 d n) = B d n)
    (hC : ∀ d n, V c main_arg3 (ix2 d n) = C d n)
    (hld : ∀ d, V c main_v2 (ix2 d 0) = ld d) (hsk : ∀ d, V c main_v3 (ix2 d 0) = sk d)
    (hx : ∀ b l d, x b l d = ((x b l d).toReal : EReal))
    (hw : ∀ d n, weight (la d n) (B d n) (C d n) (ld d) = ((weight (la d n) (B d n) (C d n) (ld d)).toReal : EReal)) :
    (dat0 V c).arrAt 6 cfg0.N = fun i : S128x64x8x128.Idx => output x la B C ld sk (i 2) (pos (i 1) (i 3)) (i 0) := by
  refine (dat0 V c).arrAt_eq_of_covers 6 _ (by decide +kernel) fun t _ y => ?_
  blk_simp
  rw [after0_6]
  idx_vars y
  have ht : t.val < 16 := t.2
  have e : (win0_6.blk t).view.emb (ix4 y0 y1 y2 y3) = ix4 (chan t y0) y1 y2 y3 := by
    blk_ext! [index0 t, chan]
  rw [e]
  show _ = output x la B C ld sk y2 (pos y1 y3) (chan t y0)
  have hxr : ∀ (k : Fin 64) (s : Fin 128), iblk0 V c 0 t (ix4 y0 k y2 s)
      = (((fun k' s' : ℕ => (x y2 ⟨(128 * k' + s') % 8192, Nat.mod_lt _ (by decide)⟩ (chan t y0)).toReal) k.1 s.1 : ℝ) : EReal) := by
    intro k s
    have e : (⟨(128 * k.1 + s.1) % 8192, Nat.mod_lt _ (by decide)⟩ : Fin 8192) = pos k s := Fin.ext (Nat.mod_eq_of_lt (by omega))
    rw [blk0_0, hX]
    show x y2 (pos k s) (chan t y0) = ((x y2 ⟨(128 * k.1 + s.1) % 8192, _⟩ (chan t y0)).toReal : EReal)
    rw [e]
    exact hx _ _ _
  refine (block_value _ _ _ _ _ _ (fun k' s' : ℕ => (x y2 ⟨(128 * k' + s') % 8192, Nat.mod_lt _ (by decide)⟩ (chan t y0)).toReal) y0 y2 ?_ hxr y1 y3).trans ?_
  · intro n
    rw [blk0_1, blk0_2, blk0_3, blk0_4, hla, hB, hC, hld]
    exact hw _ _
  · simp only [blk0_0, blk0_1, blk0_2, blk0_3, blk0_4, blk0_5, hX, hla, hB, hC, hld, hsk]
    unfold output conv
    refine congrArg (fun z : ℝ => (z : EReal) + sk (chan t y0) * x y2 (pos y1 y3) (chan t y0)) ?_
    refine Finset.sum_congr rfl fun j _ => ?_
    have e : (⟨(128 * (j.1 / 128) + j.1 % 128) % 8192, Nat.mod_lt _ (by decide)⟩ : Fin 8192) = j := Fin.ext (by
      show (128 * (j.1 / 128) + j.1 % 128) % 8192 = j.1
      omega)
    exact congrArg (fun z : Fin 8192 => _ * (x y2 z (chan t y0)).toReal) e

end Cert.Proof.Channel

end
-- ==== Proof.Region1.lean ====
/- The kernel's second region: the array it leaves holds, at each position, the projection of the channels' outputs and the
   bias. -/
module

public import proofs.«01_k».proof.Proof.Gen.KernelIdeal.Frame
public import Idealize.ShloMosaic.Lib.Pipeline.ValueKit
public import Idealize.ShloMosaic.Lib.Claim

@[expose] public section

set_option maxRecDepth 16384

noncomputable section

namespace Cert.Proof.Projection

open Idealize.ShloMosaic Idealize.ShloMosaic.TcCoe Idealize.SL.Sem
open Cert.KernelIdeal Cert.KernelIdeal.Gen
open Idealize.ShloMosaic.Pipeline (Dat)

/-- A block of the second region as one function of the entry. -/
def projOut (x0 : Vec Ideal S128x1x8x128 .f32) (x1 : Vec Ideal S128x128 .f32) (x2 : Vec Ideal S1x128 .f32) :
    Vec Ideal S8x1x128x128 .f32 := fun y =>
  (∑ d : Fin 128, x0 (ix4 d 0 (y 0) (y 2)) * x1 (ix2 (y 3) d) : EReal) + x2 (ix2 0 (y 3))

/-- `projOut` at the entries of one sequence's store. -/
theorem projOut_emb (x0 : Vec Ideal S128x1x8x128 .f32) (x1 : Vec Ideal S128x128 .f32) (x2 : Vec Ideal S1x128 .f32)
    (k : ℕ) (hk : k < 8) (inb : ∀ a, (![k, 0, 0, 0] : Fin 4 → ℕ) a + S1x1x128x128.size a ≤ S8x1x128x128.size a)
    (z : S1x1x128x128.Idx) :
    projOut x0 x1 x2 ((Rect.unit (s := S8x1x128x128) ![k, 0, 0, 0] S1x1x128x128.size inb).emb z)
      = (∑ d : Fin 128, x0 (ix4 d 0 ⟨k, hk⟩ (z 2)) * x1 (ix2 (z 3) d) : EReal) + x2 (ix2 0 (z 3)) := by
  have h0 : (z 0).1 < 1 := (z 0).2
  have e0 : (Rect.unit (s := S8x1x128x128) ![k, 0, 0, 0] S1x1x128x128.size inb).emb z 0 = (⟨k, hk⟩ : Fin 8) :=
    Fin.ext (show k + 1 * (z 0).1 = k by omega)
  have e2 : (Rect.unit (s := S8x1x128x128) ![k, 0, 0, 0] S1x1x128x128.size inb).emb z 2 = (z 2 : Fin 128) :=
    Fin.ext (show 0 + 1 * (z 2).1 = (z 2).1 by omega)
  have e3 : (Rect.unit (s := S8x1x128x128) ![k, 0, 0, 0] S1x1x128x128.size inb).emb z 3 = (z 3 : Fin 128) :=
    Fin.ext (show 0 + 1 * (z 3).1 = (z 3).1 by omega)
  unfold projOut
  rw [e0, e2, e3]

theorem out_apply (x0 : Vec Ideal S128x1x8x128 .f32) (x1 : Vec Ideal S128x128 .f32) (x2 : Vec Ideal S1x128 .f32)
    (y : S8x1x128x128.Idx) : out1_3 x0 x1 x2 y = projOut x0 x1 x2 y := by
  unfold out1_3
  refine View.canon_apply_of_pieces _ _ ?_ y ?_
  · simp only [List.mem_cons, List.not_mem_nil, or_false]
    rintro p (rfl | rfl | rfl | rfl | rfl | rfl | rfl | rfl) z <;>
      refine Eq.trans ?_ (projOut_emb x0 x1 x2 _ (by decide) (by decide) z).symm <;> idx_vars z <;>
      pointwise [k1_pay1, k1_pay2, k1_pay3, k1_pay4, k1_pay5, k1_pay6, k1_pay7, k1_pay8, k1_pay9, k1_pay10]
  · exact cover1_3 _ _ _ _ _ _ _ _ y

variable (V : (c : Dev nD) → (b : Ref sig .tc) → Buf (Elt Ideal) ((c : Thread nD τ).loc b))

/-- The windows' block indices: point `t` takes chunk `t`. -/
theorem index1 : ∀ t : Fin cfg1.N, win1_0.index t = ![0, t.val, 0, 0] ∧ win1_1.index t = ![0, 0] ∧ win1_2.index t = ![0, 0]
    ∧ win1_3.index t = ![0, t.val, 0, 0] :=
  (by decide +kernel : ∀ t : Fin grid1.N, _)

/-- THE SECOND REGION'S ARRAY. -/
theorem region1 (c : Dev nD) (Y : FVec Ideal S128x64x8x128 .f32) (W : FVec Ideal S128x128 .f32) (bias : FVec Ideal S1x128 .f32)
    (hY : V c main_v4 = Y) (hW : V c main_arg6 = W) (hb : V c main_v5 = bias) :
    (dat1 V c).arrAt 3 cfg1.N = fun i : S8x64x128x128.Idx =>
      (∑ d : Fin 128, Y (ix4 d (i 1) (i 0) (i 2)) * W (ix2 (i 3) d) : EReal) + bias (ix2 0 (i 3)) := by
  subst hY hW hb
  refine (dat1 V c).arrAt_eq_of_covers 3 _ (by decide +kernel) fun t _ y => ?_
  blk_simp
  rw [after1_3, out_apply]
  unfold projOut
  idx_vars y
  blk_point [iblk1, index1 t]

end Cert.Proof.Projection

end
-- ==== Proof.Value.lean ====
/- The kernel's result: the host's operations around the two regions and what the regions leave, read entry by entry. -/
module

public import proofs.«01_k».proof.Proof.Run
public import proofs.«01_k».proof.Proof.Region0
public import proofs.«01_k».proof.Proof.Region1

@[expose] public section

set_option maxRecDepth 16384

noncomputable section

namespace Cert.Proof.Value

open Idealize.ShloMosaic Idealize.ShloMosaic.TcCoe Idealize.ShloMosaic.Tactic Idealize.SL.Sem
open Cert.KernelIdeal Cert.KernelIdeal.Gen Cert.Proof.Scan Cert.Proof.Spec

variable (m : (ℓ : Loc nD τ sig) → Buf (Elt Ideal) ℓ) (ρ : Dev nD → PrngReg)

/-- The arguments' entries at launch. -/
abbrev argX (c : Dev nD) (b : Fin 8) (l : Fin 8192) (d : Fin 128) : EReal := m ((c.tc : Thread nD τ).loc main_arg0) (ix3 b l d)
abbrev argA (c : Dev nD) (d n : Fin 128) : EReal := m ((c.tc : Thread nD τ).loc main_arg1) (ix2 d n)
abbrev argB (c : Dev nD) (d n : Fin 128) : EReal := m ((c.tc : Thread nD τ).loc main_arg2) (ix2 d n)
abbrev argC (c : Dev nD) (d n : Fin 128) : EReal := m ((c.tc : Thread nD τ).loc main_arg3) (ix2 d n)
abbrev argD (c : Dev nD) (d : Fin 128) : EReal := m ((c.tc : Thread nD τ).loc main_arg4) (ix1 d)
abbrev argS (c : Dev nD) (d : Fin 128) : EReal := m ((c.tc : Thread nD τ).loc main_arg5) (ix1 d)
abbrev argW (c : Dev nD) (e d : Fin 128) : EReal := m ((c.tc : Thread nD τ).loc main_arg6) (ix2 e d)
abbrev argO (c : Dev nD) (e : Fin 128) : EReal := m ((c.tc : Thread nD τ).loc main_arg7) (ix1 e)

theorem entry_x (c : Dev nD) (d : Fin 128) (k : Fin 64) (b : Fin 8) (s : Fin 128) :
    V1 m ρ c main_v1 (ix4 d k b s) = argX m c b (Channel.pos k s) d := by
  unfold_abbrev_sides
  after_results
  pointwise [Channel.pos]
  show m ((c.tc : Thread nD τ).loc main_arg0) _ = _
  congr 1
  funext a
  refine Fin.ext ?_
  match a with
  | ⟨0, _⟩ => rfl
  | ⟨1, _⟩ => exact congrArg (· + s.1) (Nat.mul_comm k.1 128)
  | ⟨2, _⟩ => rfl

theorem entry_ld (c : Dev nD) (d : Fin 128) : V1 m ρ c main_v2 (ix2 d 0) = argD m c d := by
  unfold_abbrev_sides
  after_results
  pointwise []

theorem entry_sk (c : Dev nD) (d : Fin 128) : V1 m ρ c main_v3 (ix2 d 0) = argS m c d := by
  unfold_abbrev_sides
  after_results
  pointwise []

theorem entry_bias (c : Dev nD) (e : Fin 128) : V3 m ρ c main_v5 (ix2 0 e) = argO m c e := by
  unfold_abbrev_sides
  after_results
  pointwise []
  exact congrFun (W2_args m ρ c main_arg7 (by decide)) (ix1 e)

theorem result_apply (c : Dev nD) (b : Fin 8) (l : Fin 8192) (e : Fin 128) :
    W5 m ρ c (Proc.devRef .tc main_v7) (ix3 b l e)
      = W4 m ρ c (Proc.devRef .tc main_v6) (ix4 b ⟨l.1 / 128, by omega⟩ ⟨l.1 % 128, by omega⟩ e) := by
  unfold_abbrev_sides
  after_results
  pointwise []

/-- THE KERNEL'S RESULT, from real inputs and weights: the projection of the channels' outputs, plus the bias. -/
theorem value (c : Dev nD)
    (hx : ∀ b l d, argX m c b l d = ((argX m c b l d).toReal : EReal))
    (hw : ∀ d n, weight (argA m c d n) (argB m c d n) (argC m c d n) (argD m c d)
      = ((weight (argA m c d n) (argB m c d n) (argC m c d n) (argD m c d)).toReal : EReal))
    (b : Fin 8) (l : Fin 8192) (e : Fin 128) :
    W5 m ρ c (Proc.devRef .tc main_v7) (ix3 b l e)
      = (∑ d : Fin 128, output (argX m c) (argA m c) (argB m c) (argC m c) (argD m c) (argS m c) b l d * argW m c e d : EReal)
        + argO m c e := by
  have hy : V3 m ρ c main_v4 = fun i : S128x64x8x128.Idx =>
      output (argX m c) (argA m c) (argB m c) (argC m c) (argD m c) (argS m c) (i 2) (Channel.pos (i 1) (i 3)) (i 0) :=
    (W3_of m ρ c main_v4 (by decide)).trans ((W2_arr m ρ c 6).trans
      (Channel.region0 (V1 m ρ) c _ _ _ _ _ _ (entry_x m ρ c)
        (fun d n => congrFun (W1_args m ρ c main_arg1 (by decide)) (ix2 d n))
        (fun d n => congrFun (W1_args m ρ c main_arg2 (by decide)) (ix2 d n))
        (fun d n => congrFun (W1_args m ρ c main_arg3 (by decide)) (ix2 d n))
        (entry_ld m ρ c) (entry_sk m ρ c) hx hw))
  have h6 := (W4_arr m ρ c 3).trans (Projection.region1 (V3 m ρ) c _ _ _ hy (W3_args m ρ c main_arg6 (by decide)) rfl)
  rw [result_apply]
  refine (congrFun h6 _).trans ?_
  have hp : Channel.pos ⟨l.1 / 128, by omega⟩ ⟨l.1 % 128, by omega⟩ = l := Fin.ext (by
    show 128 * (l.1 / 128) + l.1 % 128 = l.1
    omega)
  show (∑ d : Fin 128, output (argX m c) (argA m c) (argB m c) (argC m c) (argD m c) (argS m c) b
      (Channel.pos ⟨l.1 / 128, by omega⟩ ⟨l.1 % 128, by omega⟩) d * argW m c e d : EReal) + V3 m ρ c main_v5 (ix2 0 e) = _
  rw [hp, entry_bias]

end Cert.Proof.Value

end
-- ==== Proof.Reference.lean ====
/- The reference's result, read entry by entry. -/
module

public import proofs.«01_k».proof.Proof.Gen.ReferenceIdeal.Run
public import proofs.«01_k».proof.Proof.Spec
public import Idealize.ShloMosaic.Lib.Pointwise
public import Idealize.ShloMosaic.PureOps.Ideal

@[expose] public section

set_option maxRecDepth 16384

noncomputable section

namespace Cert.Proof.Reference

open Idealize.ShloMosaic Idealize.ShloMosaic.TcCoe Cert.ReferenceIdeal Cert.ReferenceIdeal.Gen Cert.ReferenceIdeal.Value Cert.Proof.Scan Cert.Proof.Spec

variable (m : (ℓ : Loc nD τ sig) → Buf (Elt Ideal) ℓ)

/-- The gather of a row of taps at a matrix of distances: each entry is the tap at its distance, read signed and kept within
    the row. -/
theorem gather_apply (x : FVec Ideal S128x8192 .f32) (idx : IVec S8192x8192x1 32) (d : Fin 128) (l j : Fin 8192) :
    Host.gather gather_S128x8192_S8192x8192x1_S128x8192x8192_0_1_n_n_1_2_1281 x idx (ix3 d l j)
      = x (ix2 d ⟨min (idx (ix3 l j 0)).toInt.toNat 8191, by omega⟩) := by
  let D := gather_S128x8192_S8192x8192x1_S128x8192x8192_0_1_n_n_1_2_1281
  have hD : D = gather_S128x8192_S8192x8192x1_S128x8192x8192_0_1_n_n_1_2_1281 := rfl
  unfold Host.gather
  congr 1
  funext a
  refine Fin.ext ?_
  show D.start (ix3 d l j) idx a + D.batchCoord (ix3 d l j) a + D.offCoord (ix3 d l j) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start
    rw [dif_neg (show (0 : Fin 2) ∉ D.startIndexMap from fun h => absurd (List.mem_singleton.mp h) (by decide))]
    unfold GatherDims.offCoord
    rw [dif_pos (show (0 : Fin 2) ∈ D.sKept from (GatherDims.mem_sKept _ _).mpr
      ⟨fun h => absurd (List.mem_singleton.mp h) (by decide), List.not_mem_nil⟩)]
    simp only [Nat.zero_add, Nat.add_zero]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ D.startIndexMap from List.mem_singleton.mpr rfl)]
    have hsi : D.siIdx (ix3 d l j) ⟨List.idxOf (1 : Fin 2) D.startIndexMap,
        List.idxOf_lt_length_iff.2 (List.mem_singleton.mpr rfl)⟩ = ix3 l j 0 := by
      funext b; refine Fin.ext ?_
      match b with
      | ⟨0, _⟩ => rfl
      | ⟨1, _⟩ => rfl
      | ⟨2, _⟩ => rfl
    rw [hsi]
    rfl

/-- A decay to a whole power is a real number. -/
theorem pow_exp (a : EReal) (h : a ≠ ⊤) (k : ℕ) (hk : k < 16384) :
    Ideal.pow (Ideal.exp a) (FloatOps.sitofp (F := Ideal) FTy.f32 (BitVec.ofNat 32 k)) = ((decay a ^ k : ℝ) : EReal) := by
  have hi : (BitVec.ofNat 32 k).toInt = (k : ℤ) := by
    rw [BitVec.toInt_eq_toNat_of_lt (by rw [BitVec.toNat_ofNat]; omega), BitVec.toNat_ofNat]
    omega
  have hs : FloatOps.sitofp (F := Ideal) FTy.f32 (BitVec.ofNat 32 k) = (((k : ℕ) : ℝ) : EReal) := by
    show (((BitVec.ofNat 32 k).toInt : ℝ) : EReal) = _
    rw [hi]; norm_cast
  rw [hs, exp_eq_decay a h]
  exact congrArg (fun z : ℝ => (z : EReal)) (Real.rpow_natCast (decay a) k)

/-- A tap of a channel's kernel, from real weights. -/
theorem tap (la b c : Fin 128 → EReal) (ld : EReal)
    (hw : ∀ n, weight (la n) (b n) (c n) ld = ((weight (la n) (b n) (c n) ld).toReal : EReal)) (k : ℕ) (hk : k < 16384) :
    (∑ n : Fin 128, weight (la n) (b n) (c n) ld
        * Ideal.pow (Ideal.exp (expo (la n) ld)) (FloatOps.sitofp (F := Ideal) FTy.f32 (BitVec.ofNat 32 k)) : EReal)
      = ((kern (fun n => (weight (la n) (b n) (c n) ld).toReal) (fun n => decay (expo (la n) ld)) k : ℝ) : EReal) := by
  unfold kern
  rw [coe_sum]
  refine Finset.sum_congr rfl fun n _ => ?_
  rw [pow_exp _ (expo_ne_top _ _) k hk, hw n, ← EReal.coe_mul]

/-- The distance from an earlier position, as the reference computes it. -/
theorem distance (j l : ℕ) (h : j ≤ l) (hl : l < 8192) :
    IntOp.cmpi .sge (IntOp.subi (BitVec.ofNat 32 l) (BitVec.ofNat 32 j)) 0#32 = 1#1
      ∧ min (IntOp.maxsi (IntOp.subi (BitVec.ofNat 32 l) (BitVec.ofNat 32 j)) 0#32).toInt.toNat 8191 = l - j := by
  have e : IntOp.subi (BitVec.ofNat 32 l) (BitVec.ofNat 32 j) = BitVec.ofNat 32 (l - j) := by
    apply BitVec.eq_of_toNat_eq
    show (BitVec.ofNat 32 l - BitVec.ofNat 32 j).toNat = _
    rw [BitVec.toNat_sub]
    simp only [BitVec.toNat_ofNat]
    omega
  have hi : (BitVec.ofNat 32 (l - j)).toInt = ((l - j : ℕ) : ℤ) := by
    rw [BitVec.toInt_eq_toNat_of_lt (by rw [BitVec.toNat_ofNat]; omega), BitVec.toNat_ofNat]
    omega
  rw [e]
  refine ⟨by simp [IntOp.cmpi, BitVec.sle, hi], ?_⟩
  have hm : IntOp.maxsi (BitVec.ofNat 32 (l - j)) 0#32 = BitVec.ofNat 32 (l - j) := by
    unfold IntOp.maxsi
    simp [BitVec.sle, BitVec.slt, hi]
    intro h'
    rw [show l - j = 0 by omega]
  rw [hm, hi]
  omega

/-- A later position is masked out. -/
theorem masked (j l : ℕ) (h : l < j) (hj : j < 8192) :
    IntOp.cmpi .sge (IntOp.subi (BitVec.ofNat 32 l) (BitVec.ofNat 32 j)) 0#32 = 0#1 := by
  have toInt_small : ∀ k < 8192, (BitVec.ofNat 32 k).toInt = (k : ℤ) := fun k hk => by
    rw [BitVec.toInt_eq_toNat_of_lt (by rw [BitVec.toNat_ofNat]; omega), BitVec.toNat_ofNat]
    omega
  have h : (IntOp.subi (BitVec.ofNat 32 l) (BitVec.ofNat 32 j)).toInt < 0 := by
    show (BitVec.ofNat 32 l - BitVec.ofNat 32 j).toInt < 0
    rw [BitVec.toInt_sub, toInt_small _ hj, toInt_small _ (by omega)]; rw [Int.bmod_eq_of_le (by omega) (by omega)]; omega
  simp [IntOp.cmpi, BitVec.sle, Int.not_le.mpr h]

/-- The arguments' entries at launch. -/
abbrev argX (c : Dev nD) (b : Fin 8) (l : Fin 8192) (d : Fin 128) : EReal := m ((c.tc : Thread nD τ).loc main_arg0) (ix3 b l d)
abbrev argA (c : Dev nD) (d n : Fin 128) : EReal := m ((c.tc : Thread nD τ).loc main_arg1) (ix2 d n)
abbrev argB (c : Dev nD) (d n : Fin 128) : EReal := m ((c.tc : Thread nD τ).loc main_arg2) (ix2 d n)
abbrev argC (c : Dev nD) (d n : Fin 128) : EReal := m ((c.tc : Thread nD τ).loc main_arg3) (ix2 d n)
abbrev argD (c : Dev nD) (d : Fin 128) : EReal := m ((c.tc : Thread nD τ).loc main_arg4) (ix1 d)
abbrev argS (c : Dev nD) (d : Fin 128) : EReal := m ((c.tc : Thread nD τ).loc main_arg5) (ix1 d)
abbrev argW (c : Dev nD) (e d : Fin 128) : EReal := m ((c.tc : Thread nD τ).loc main_arg6) (ix2 e d)
abbrev argO (c : Dev nD) (e : Fin 128) : EReal := m ((c.tc : Thread nD τ).loc main_arg7) (ix1 e)

/-- THE REFERENCE'S RESULT, from real inputs and weights: the projection of the channels' outputs, plus the bias. -/
theorem value (c : Dev nD)
    (hx : ∀ b l d, argX m c b l d = ((argX m c b l d).toReal : EReal))
    (hw : ∀ d n, weight (argA m c d n) (argB m c d n) (argC m c d n) (argD m c d)
      = ((weight (argA m c d n) (argB m c d n) (argC m c d n) (argD m c d)).toReal : EReal))
    (b : Fin 8) (l : Fin 8192) (e : Fin 128) :
    res_main_v46 m c (ix3 b l e)
      = (∑ d : Fin 128, output (argX m c) (argA m c) (argB m c) (argC m c) (argD m c) (argS m c) b l d * argW m c e d : EReal)
        + argO m c e := by
  pointwise [res_main_v46]
  simp only [gather_apply]
  pointwise []
  simp only [ne_eq, not_true_eq_false, if_false]
  refine congrArg (fun z : EReal => z + argO m c e) (Finset.sum_congr rfl fun d _ => ?_)
  refine congrArg (fun z : EReal => z * argW m c e d) ?_
  unfold output conv
  rw [coe_sum]
  refine congrArg₂ (fun y z : EReal => y + z) (Finset.sum_congr rfl fun j _ => ?_) (mul_comm _ _)
  rw [EReal.coe_mul, ← hx]
  refine congrArg (fun z : EReal => z * argX m c b j d) ?_
  by_cases h : j.1 ≤ l.1
  · obtain ⟨h1, h2⟩ := distance j.1 l.1 h l.2
    rw [h1, if_pos h]
    simp only [h2]
    exact tap (fun n => argA m c d n) (fun n => argB m c d n) (fun n => argC m c d n) (argD m c d) (hw d) (l.1 - j.1) (by omega)
  · rw [masked j.1 l.1 (by omega) j.2, if_neg h]
    exact (Idealize.ShloMosaic.Ideal.ofBits_zero_f32).trans EReal.coe_zero.symm

end Cert.Proof.Reference

end
-- ==== Proof.Regular.lean ====
/- What the precondition says of the arguments' entries: the input and the two matrices hold real numbers, and the divisor
   `A + EPS` is nowhere zero. -/
module

public import proofs.«01_k».proof.Defs
public import proofs.«01_k».proof.Proof.Spec
public import Idealize.ShloMosaic.Lib.Pointwise
public import Idealize.ShloMosaic.PureOps.Ideal

@[expose] public section

set_option maxRecDepth 16384

noncomputable section

namespace Cert.Proof.Regular

open Idealize.ShloMosaic Idealize.ShloMosaic.TcCoe Cert.Proof.Spec Cert.Pre_regular

/-- The predicate's shape conditions. -/
instance facts : Cert.Pre_regular.Facts := ⟨by decide, by decide⟩

theorem inf_word : Ideal.ofBits FTy.f32 0x7F800000#32 = ⊤ := by
  simp [Ideal.ofBits, Ideal.ieee, -EReal.coe_mul]

/-- A number whose magnitude is below infinity is real. -/
theorem real_of_abs (v : EReal) (h : BitVec.ofBool (decide (FloatOps.absf (F := Ideal) (φ := .f32) v < Ideal.ofBits FTy.f32 2139095040#32)) = 1#1) :
    ∃ r : ℝ, v = (r : EReal) := by
  have h : max v (-v) < ⊤ := by
    by_contra hn
    have h' : ¬ FloatOps.absf (F := Ideal) (φ := .f32) v < Ideal.ofBits FTy.f32 2139095040#32 := by
      rw [inf_word]; exact hn
    rw [decide_eq_false h'] at h
    exact absurd h (by decide)
  induction v with
  | bot => simp at h
  | top => simp at h
  | coe r => exact ⟨r, rfl⟩

/-- A bit that is one says its comparison holds. -/
theorem of_bit (p : Prop) [Decidable p] (h : BitVec.ofBool (decide p) = 1#1) : p := by
  by_contra hn
  rw [decide_eq_false hn] at h
  exact absurd h (by decide)

variable (x : FVec Ideal S8x8192x128 .f32) (la B C : FVec Ideal S128x128 .f32) (ld sk : FVec Ideal S128 .f32)
  (W : FVec Ideal S128x128 .f32) (o : FVec Ideal S128 .f32)

theorem x_real (h : (fn x la B C ld sk W o).1 = fun _ => 1#1) (b : Fin 8) (l : Fin 8192) (d : Fin 128) :
    ∃ r : ℝ, x (ix3 b l d) = (r : EReal) := by
  have h := congrFun h (ix3 b l d)
  revert h
  pointwise [fn]
  exact real_of_abs _

theorem B_real (h : (fn x la B C ld sk W o).2.1 = fun _ => 1#1) (d n : Fin 128) : ∃ r : ℝ, B (ix2 d n) = (r : EReal) := by
  have h := congrFun h (ix2 d n)
  revert h
  pointwise [fn]
  exact real_of_abs _

theorem C_real (h : (fn x la B C ld sk W o).2.2.1 = fun _ => 1#1) (d n : Fin 128) : ∃ r : ℝ, C (ix2 d n) = (r : EReal) := by
  have h := congrFun h (ix2 d n)
  revert h
  pointwise [fn]
  exact real_of_abs _

theorem divisor_ne (h : (fn x la B C ld sk W o).2.2.2 = fun _ => 1#1) (d n : Fin 128) : divisor (la (ix2 d n)) ≠ 0 := by
  have h := congrFun h (ix2 d n)
  revert h
  pointwise [fn, fn_softplus]
  intro h
  have h := of_bit _ h
  simp only [ne_eq, not_true_eq_false, if_false] at h
  exact h

end Cert.Proof.Regular

end
-- ==== Proof.lean ====
/- The proof of the certificate: each program runs, leaves its arguments unchanged and every counter at zero, and the idealized
   kernel's result is the idealized reference's wherever the precondition holds. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal.Run
public import proofs.«01_k».proof.Proof.Gen.ReferenceIdeal
public import proofs.«01_k».proof.Proof.Value
public import proofs.«01_k».proof.Proof.Reference
public import proofs.«01_k».proof.Proof.Regular
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Proof.Spec

/-- A number that is real is the number its real part names. -/
theorem eq_toReal {v : EReal} (h : ∃ r : ℝ, v = (r : EReal)) : v = (v.toReal : EReal) := by
  obtain ⟨r, rfl⟩ := h
  rw [EReal.toReal_coe]

/-- Where the precondition holds and the arguments agree, the reference's result is the kernel's. -/
theorem results_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Pre_KernelIdeal_regular m) (c : Dev Cert.KernelIdeal.nD)
    (e0 : Reference.argX m' c = Value.argX m c) (e1 : Reference.argA m' c = Value.argA m c)
    (e2 : Reference.argB m' c = Value.argB m c) (e3 : Reference.argC m' c = Value.argC m c)
    (e4 : Reference.argD m' c = Value.argD m c) (e5 : Reference.argS m' c = Value.argS m c)
    (e6 : Reference.argW m' c = Value.argW m c) (e7 : Reference.argO m' c = Value.argO m c) :
    Cert.ReferenceIdeal.Value.res_main_v46 m' c
      = Cert.KernelIdeal.Gen.W5 m ρ c (Proc.devRef .tc Cert.KernelIdeal.main_v7) := by
  obtain ⟨h0, h1, h2, h3⟩ := hpre c
  have hx : ∀ b l d, Value.argX m c b l d = ((Value.argX m c b l d).toReal : EReal) :=
    fun b l d => eq_toReal (Regular.x_real _ _ _ _ _ _ _ _ h0 b l d)
  have hw : ∀ d n, weight (Value.argA m c d n) (Value.argB m c d n) (Value.argC m c d n) (Value.argD m c d)
      = ((weight (Value.argA m c d n) (Value.argB m c d n) (Value.argC m c d n) (Value.argD m c d)).toReal : EReal) :=
    fun d n => weight_real _ _ _ _ (Regular.B_real _ _ _ _ _ _ _ _ h1 d n) (Regular.C_real _ _ _ _ _ _ _ _ h2 d n)
      (Regular.divisor_ne _ _ _ _ _ _ _ _ h3 d n)
  funext i
  have hi : i = ix3 (i 0 : Fin 8) (i 1 : Fin 8192) (i 2 : Fin 128) := by
    funext a
    match a with
    | ⟨0, _⟩ => rfl
    | ⟨1, _⟩ => rfl
    | ⟨2, _⟩ => rfl
  rw [hi]
  refine (Reference.value m' c ?_ ?_ (i 0) (i 1) (i 2)).trans ?_
  · rw [e0]; exact hx
  · rw [e1, e2, e3, e4]; exact hw
  · rw [e0, e1, e2, e3, e4, e5, e6, e7]
    exact (Value.value m ρ c hx hw (i 0) (i 1) (i 2)).symm

/-- EVERYTHING CLAIMED. -/
theorem claim : Cert.Claim := ⟨Cert.Kernel.Gen.facts, Cert.KernelIdeal.Gen.facts, Cert.ReferenceIdeal.Gen.facts, Regular.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ),
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ),
  trivial,
  fun m ρ m' ρ' hpre hagree =>
    ⟨fun c => Cert.KernelIdeal.Gen.W5 m ρ c (Proc.devRef .tc Cert.KernelIdeal.main_v7),
      KernelRun.run m ρ,
      (θ_run Cert.ReferenceIdeal.defs _ _).mono
        (fun r h c => ⟨(h c).1.trans (results_eq m ρ m' hpre c
          (by funext b l d; exact congrFun (hagree c).1 (ix3 b l d))
          (by funext d n; exact congrFun (hagree c).2.1 (ix2 d n))
          (by funext d n; exact congrFun (hagree c).2.2.1 (ix2 d n))
          (by funext d n; exact congrFun (hagree c).2.2.2.1 (ix2 d n))
          (by funext d; exact congrFun (hagree c).2.2.2.2.1 (ix1 d))
          (by funext d; exact congrFun (hagree c).2.2.2.2.2.1 (ix1 d))
          (by funext d n; exact congrFun (hagree c).2.2.2.2.2.2.1 (ix2 d n))
          (by funext d; exact congrFun (hagree c).2.2.2.2.2.2.2 (ix1 d))), (h c).2⟩)
        (Cert.ReferenceIdeal.Value.run (F := Ideal) m' ρ')⟩⟩

end Cert.Proof

end
